-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_even_sections_finite_gate [hPre_even_sections_finite_gate : Cert.Pre_even_sections_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_even_sections_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_sections_finite_gate [hPre_even_sections_finite_gate : Cert.Pre_even_sections_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_sections_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_even_sections_finite_gate [hKernelIdeal : Cert.KernelIdeal.Facts] [hPre_even_sections_finite_gate : Cert.Pre_even_sections_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even_sections_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_even_sections_finite_gate [hReferenceIdeal : Cert.ReferenceIdeal.Facts] [hPre_even_sections_finite_gate : Cert.Pre_even_sections_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_sections_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_even_sections_finite_gate [hKernelIdeal : Cert.KernelIdeal.Facts] [hReferenceIdeal : Cert.ReferenceIdeal.Facts] [hPre_even_sections_finite_gate : Cert.Pre_even_sections_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even_sections_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_even_sections_finite_gate : Cert.Pre_even_sections_finite_gate.Facts),
    quiescent_Kernel (hKernel := hKernel)
    ∧ quiescent_KernelIdeal (hKernelIdeal := hKernelIdeal)
    ∧ quiescent_KernelIdeal_pre_even_sections_finite_gate (hKernelIdeal := hKernelIdeal) (hPre_even_sections_finite_gate := hPre_even_sections_finite_gate)
    ∧ quiescent_ReferenceIdeal (hReferenceIdeal := hReferenceIdeal)
    ∧ quiescent_ReferenceIdeal_pre_even_sections_finite_gate (hReferenceIdeal := hReferenceIdeal) (hPre_even_sections_finite_gate := hPre_even_sections_finite_gate)
    ∧ preserves_Kernel_KernelIdeal
    ∧ algebraic_KernelIdeal_ReferenceIdeal_pre_even_sections_finite_gate (hKernelIdeal := hKernelIdeal) (hReferenceIdeal := hReferenceIdeal) (hPre_even_sections_finite_gate := hPre_even_sections_finite_gate)
-- ==== Pre_even_sections_finite_gate.lean ====
abbrev S32768x128 : Shape := ⟨2, ![32768, 128]⟩
abbrev S100000x128 : Shape := ⟨2, ![100000, 128]⟩
abbrev S16 : Shape := ⟨1, ![16]⟩
abbrev S32768 : Shape := ⟨1, ![32768]⟩
abbrev S16x128 : Shape := ⟨2, ![16, 128]⟩
abbrev S_ : Shape := ⟨0, ![]⟩
abbrev S1x128 : Shape := ⟨2, ![1, 128]⟩
abbrev S1 : Shape := ⟨1, ![1]⟩
abbrev S128x384 : Shape := ⟨2, ![128, 384]⟩
abbrev S128 : Shape := ⟨1, ![128]⟩
abbrev S128x256 : Shape := ⟨2, ![128, 256]⟩
abbrev S128x128 : Shape := ⟨2, ![128, 128]⟩

class Facts : Prop where
  bcast_S_S16 : S_.BroadcastsInDim S16 (![] : Fin 0 → Fin S16.rank)
  reducesTo_S16_S_d0 : S16.ReducesTo [0] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S32768x128 .f32) (main_arg1 : FVec F S100000x128 .f32) (main_arg2 : IVec S16 32) (main_arg3 : FVec F S32768 .f32) (main_arg4 : FVec F S16x128 .f32) (main_arg5 : IVec S_ 32) (main_arg6 : FVec F S32768x128 .f32) (main_arg7 : FVec F S1x128 .f32) (main_arg8 : FVec F S1 .f32) (main_arg9 : FVec F S128x384 .f32) (main_arg10 : FVec F S128 .f32) (main_arg11 : FVec F S128x256 .f32) (main_arg12 : FVec F S128 .f32) (main_arg13 : FVec F S128x128 .f32) (main_arg14 : FVec F S128 .f32) : IVec S_ 1 :=
  let main_c : IVec S_ 32 := constantI S_ 32 2048#32
  let main_v0 : IVec S16 32 := broadcastInDim S16 ![] bcast_S_S16 main_c
  let main_v1 : IVec S16 1 := cmpi .eq main_arg2 main_v0
  let main_c_0 : IVec S_ 1 := constantI S_ 1 1#1
  let main_v2 : IVec S_ 1 := (fun x v => Host.reduce IntOp.andi x v reducesTo_S16_S_d0 h_S_) main_v1 main_c_0
  let main_v3 : FVec F S1x128 .f32 := Host.absf main_arg7
  let main_cst : FVec F S_ .f32 := constant S_ .f32 0x7F800000#32
  let main_v4 : FVec F S1x128 .f32 := broadcastInDim S1x128 ![] bcast_S_S1x128 main_cst
  let main_v5 : IVec S1x128 1 := cmpf .olt main_v3 main_v4
  let main_c_1 : IVec S_ 1 := constantI S_ 1 1#1
  let main_v6 : IVec S_ 1 := (fun x v => Host.reduce IntOp.andi x v reducesTo_S1x128_S_d0_1 h_S_) main_v5 main_c_1
  let main_v7 : IVec S_ 1 := andi main_v2 main_v6
  main_v7
-- ==== Kernel.lean ====
abbrev S32768x128 : Shape := ⟨2, ![32768, 128]⟩
abbrev S100000x128 : Shape := ⟨2, ![100000, 128]⟩
abbrev S16 : Shape := ⟨1, ![16]⟩
abbrev S32768 : Shape := ⟨1, ![32768]⟩
abbrev S16x128 : Shape := ⟨2, ![16, 128]⟩
abbrev S_ : Shape := ⟨0, ![]⟩
abbrev S1x128 : Shape := ⟨2, ![1, 128]⟩
abbrev S1 : Shape := ⟨1, ![1]⟩
abbrev S128x384 : Shape := ⟨2, ![128, 384]⟩
abbrev S128 : Shape := ⟨1, ![128]⟩
abbrev S128x256 : Shape := ⟨2, ![128, 256]⟩
abbrev S128x128 : Shape := ⟨2, ![128, 128]⟩
abbrev S8x2x2048 : Shape := ⟨3, ![8, 2, 2048]⟩
abbrev S8x2x128 : Shape := ⟨3, ![8, 2, 128]⟩
abbrev S1x1 : Shape := ⟨2, ![1, 1]⟩
abbrev S4096x128 : Shape := ⟨2, ![4096, 128]⟩
abbrev S1x2x2048 : Shape := ⟨3, ![1, 2, 2048]⟩
abbrev S1x2x128 : Shape := ⟨3, ![1, 2, 128]⟩
abbrev S128x1 : Shape := ⟨2, ![128, 1]⟩
abbrev S1x1x128 : Shape := ⟨3, ![1, 1, 128]⟩
abbrev S1x1x1 : Shape := ⟨3, ![1, 1, 1]⟩
abbrev S2048x128 : Shape := ⟨2, ![2048, 128]⟩
abbrev S2048x1 : Shape := ⟨2, ![2048, 1]⟩
abbrev S1x1x2048 : Shape := ⟨3, ![1, 1, 2048]⟩
abbrev S1x2048 : Shape := ⟨2, ![1, 2048]⟩

abbrev nBuf : Space → Nat
  | .hbm => 23
  | .vmem => 18
  | .smem => 0
  | _ => 0

abbrev bufTy : (tb : Table) → Fin (tcTables nBuf tb) → BufTy
  | .hbm, ⟨0, _⟩ => ⟨S32768x128, .f32⟩
  | .hbm, ⟨1, _⟩ => ⟨S100000x128, .f32⟩
  | .hbm, ⟨2, _⟩ => ⟨S16, .i32⟩
  | .hbm, ⟨3, _⟩ => ⟨S32768, .f32⟩
  | .hbm, ⟨4, _⟩ => ⟨S16x128, .f32⟩
  | .hbm, ⟨5, _⟩ => ⟨S_, .i32⟩
  | .hbm, ⟨6, _⟩ => ⟨S32768x128, .f32⟩
  | .hbm, ⟨7, _⟩ => ⟨S1x128, .f32⟩
  | .hbm, ⟨8, _⟩ => ⟨S1, .f32⟩
  | .hbm, ⟨9, _⟩ => ⟨S128x384, .f32⟩
  | .hbm, ⟨10, _⟩ => ⟨S128, .f32⟩
  | .hbm, ⟨11, _⟩ => ⟨S128x256, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S8x2x2048, .f32⟩
  | .hbm, ⟨16, _⟩ => ⟨S8x2x128, .f32⟩
  | .hbm, ⟨17, _⟩ => ⟨S1x128, .f32⟩
  | .hbm, ⟨18, _⟩ => ⟨S1x1, .f32⟩
  | .hbm, ⟨19, _⟩ => ⟨S1x128, .f32⟩
  | .hbm, ⟨20, _⟩ => ⟨S1x128, .f32⟩
  | .hbm, ⟨21, _⟩ => ⟨S8x2x128, .f32⟩
  | .hbm, ⟨22, _⟩ => ⟨S16x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x2x2048, .f32⟩
  | .local _ .vmem, ⟨5, _⟩ => ⟨S1x2x2048, .f32⟩
  | .local _ .vmem, ⟨6, _⟩ => ⟨S1x2x128, .f32⟩
  | .local _ .vmem, ⟨7, _⟩ => ⟨S1x2x128, .f32⟩
  | .local _ .vmem, ⟨8, _⟩ => ⟨S128x384, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S128x256, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x2x128, .f32⟩
  | .local _ .vmem, ⟨17, _⟩ => ⟨S1x2x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S32768x128 : Shape := ⟨2, ![32768, 128]⟩
abbrev S100000x128 : Shape := ⟨2, ![100000, 128]⟩
abbrev S16 : Shape := ⟨1, ![16]⟩
abbrev S32768 : Shape := ⟨1, ![32768]⟩
abbrev S16x128 : Shape := ⟨2, ![16, 128]⟩
abbrev S_ : Shape := ⟨0, ![]⟩
abbrev S1x128 : Shape := ⟨2, ![1, 128]⟩
abbrev S1 : Shape := ⟨1, ![1]⟩
abbrev S128x384 : Shape := ⟨2, ![128, 384]⟩
abbrev S128 : Shape := ⟨1, ![128]⟩
abbrev S128x256 : Shape := ⟨2, ![128, 256]⟩
abbrev S128x128 : Shape := ⟨2, ![128, 128]⟩
abbrev S15 : Shape := ⟨1, ![15]⟩
abbrev S16x1 : Shape := ⟨2, ![16, 1]⟩
abbrev S32768x1 : Shape := ⟨2, ![32768, 1]⟩
abbrev S1x1 : Shape := ⟨2, ![1, 1]⟩
abbrev S32768x384 : Shape := ⟨2, ![32768, 384]⟩
abbrev S384x128 : Shape := ⟨2, ![384, 128]⟩
abbrev S128x1 : Shape := ⟨2, ![128, 1]⟩
abbrev S16x256 : Shape := ⟨2, ![16, 256]⟩
abbrev S256x128 : Shape := ⟨2, ![256, 128]⟩

abbrev nBuf : Space → Nat
  | .hbm => 159
  | .vmem => 0
  | .smem => 0
  | _ => 0

abbrev hbmTy0_0 (i : Nat) : BufTy := match i % 128 with
  | 0 => ⟨S32768x128, .f32⟩
  | 1 => ⟨S100000x128, .f32⟩
  | 2 => ⟨S16, .i32⟩
  | 3 => ⟨S32768, .f32⟩
  | 4 => ⟨S16x128, .f32⟩
  | 5 => ⟨S_, .i32⟩
  | 6 => ⟨S32768x128, .f32⟩
  | 7 => ⟨S1x128, .f32⟩
  | 8 => ⟨S1, .f32⟩
  | 9 => ⟨S128x384, .f32⟩
  | 10 => ⟨S128, .f32⟩
  | 11 => ⟨S128x256, .f32⟩
  | 12 => ⟨S128, .f32⟩
  | 13 => ⟨S128x128, .f32⟩
  | 14 => ⟨S128, .f32⟩
  | 15 => ⟨S_, .i32⟩
  | 16 => ⟨S_, .i32⟩
  | 17 => ⟨S16, .i32⟩
  | 18 => ⟨S_, .i32⟩
  | 19 => ⟨S16, .i32⟩
  | 20 => ⟨S16, .i32⟩
  | 21 => ⟨S16, .i32⟩
  | 22 => ⟨S1, .i32⟩
  | 23 => ⟨S15, .i32⟩
  | 24 => ⟨S16, .i32⟩
  | 25 => ⟨S_, .i32⟩
  | 26 => ⟨S1, .i32⟩
  | 27 => ⟨S_, .i32⟩
  | 28 => ⟨S16, .i32⟩
  | 29 => ⟨S_, .i32⟩
  | 30 => ⟨S_, .i32⟩
  | 31 => ⟨S16, .i32⟩
  | 32 => ⟨S_, .i32⟩
  | 33 => ⟨S32768, .i32⟩
  | 34 => ⟨S_, .i32⟩
  | 35 => ⟨S16, .i32⟩
  | 36 => ⟨S16, .i1⟩
  | 37 => ⟨S_, .i32⟩
  | 38 => ⟨S16, .i32⟩
  | 39 => ⟨S16, .i32⟩
  | 40 => ⟨S16, .i32⟩
  | 41 => ⟨S16x1, .i32⟩
  | 42 => ⟨S_, .i32⟩
  | 43 => ⟨S16, .i32⟩
  | 44 => ⟨S32768, .i32⟩
  | 45 => ⟨S_, .i32⟩
  | 46 => ⟨S_, .i32⟩
  | 47 => ⟨S32768, .i32⟩
  | 48 => ⟨S_, .i32⟩
  | 49 => ⟨S32768, .i32⟩
  | 50 => ⟨S32768, .i32⟩
  | 51 => ⟨S_, .i32⟩
  | 52 => ⟨S32768, .i32⟩
  | 53 => ⟨S32768, .i1⟩
  | 54 => ⟨S_, .i32⟩
  | 55 => ⟨S32768, .i32⟩
  | 56 => ⟨S32768, .i32⟩
  | 57 => ⟨S32768, .i32⟩
  | 58 => ⟨S32768x1, .i32⟩
  | 59 => ⟨S1, .i32⟩
  | 60 => ⟨S_, .i32⟩
  | 61 => ⟨S32768x1, .i32⟩
  | 62 => ⟨S32768x1, .i1⟩
  | 63 => ⟨S1x1, .i32⟩
  | 64 => ⟨S32768x1, .i32⟩
  | 65 => ⟨S32768x1, .i1⟩
  | 66 => ⟨S32768x1, .i1⟩
  | 67 => ⟨S_, .i1⟩
  | 68 => ⟨S32768, .i1⟩
  | 69 => ⟨S32768, .i32⟩
  | 70 => ⟨S_, .i32⟩
  | 71 => ⟨S32768, .i32⟩
  | 72 => ⟨S32768, .i32⟩
  | 73 => ⟨S_, .i32⟩
  | 74 => ⟨S16, .i32⟩
  | 75 => ⟨S16, .i1⟩
  | 76 => ⟨S_, .i32⟩
  | 77 => ⟨S16, .i32⟩
  | 78 => ⟨S16, .i32⟩
  | 79 => ⟨S16, .i32⟩
  | 80 => ⟨S16x1, .i32⟩
  | 81 => ⟨S1, .i32⟩
  | 82 => ⟨S_, .i32⟩
  | 83 => ⟨S16x1, .i32⟩
  | 84 => ⟨S16x1, .i1⟩
  | 85 => ⟨S1x1, .i32⟩
  | 86 => ⟨S16x1, .i32⟩
  | 87 => ⟨S16x1, .i1⟩
  | 88 => ⟨S16x1, .i1⟩
  | 89 => ⟨S_, .i1⟩
  | 90 => ⟨S16, .i1⟩
  | 91 => ⟨S16x128, .f32⟩
  | 92 => ⟨S16x128, .i1⟩
  | 93 => ⟨S_, .f32⟩
  | 94 => ⟨S16x128, .f32⟩
  | 95 => ⟨S16x128, .f32⟩
  | 96 => ⟨S_, .i32⟩
  | 97 => ⟨S32768, .i32⟩
  | 98 => ⟨S32768, .i1⟩
  | 99 => ⟨S_, .i32⟩
  | 100 => ⟨S32768, .i32⟩
  | 101 => ⟨S32768, .i32⟩
  | 102 => ⟨S32768, .i32⟩
  | 103 => ⟨S32768x1, .i32⟩
  | 104 => ⟨S1, .i32⟩
  | 105 => ⟨S_, .i32⟩
  | 106 => ⟨S32768x1, .i32⟩
  | 107 => ⟨S32768x1, .i1⟩
  | 108 => ⟨S1x1, .i32⟩
  | 109 => ⟨S32768x1, .i32⟩
  | 110 => ⟨S32768x1, .i1⟩
  | 111 => ⟨S32768x1, .i1⟩
  | 112 => ⟨S_, .i1⟩
  | 113 => ⟨S32768, .i1⟩
  | 114 => ⟨S32768x128, .f32⟩
  | 115 => ⟨S32768x128, .i1⟩
  | 116 => ⟨S_, .f32⟩
  | 117 => ⟨S32768x128, .f32⟩
  | 118 => ⟨S32768x128, .f32⟩
  | 119 => ⟨S32768x384, .f32⟩
  | 120 => ⟨S384x128, .f32⟩
  | 121 => ⟨S32768x128, .f32⟩
  | 122 => ⟨S1x128, .f32⟩
  | 123 => ⟨S32768x128, .f32⟩
  | 124 => ⟨S32768x128, .f32⟩
  | 125 => ⟨S32768x128, .f32⟩
  | 126 => ⟨S32768x128, .f32⟩
  | 127 => ⟨S_, .f32⟩
  | _ => ⟨S32768x128, .f32⟩

abbrev hbmTy0_1 (i : Nat) : BufTy := match i % 128 with
  | 0 => ⟨S32768x128, .f32⟩
  | 1 => ⟨S32768x128, .f32⟩
  | 2 => ⟨S_, .f32⟩
  | 3 => ⟨S32768x128, .f32⟩
  | 4 => ⟨S32768x128, .f32⟩
  | 5 => ⟨S128x1, .f32⟩
  | 6 => ⟨S32768x1, .f32⟩
  | 7 => ⟨S1x1, .f32⟩
  | 8 => ⟨S32768x1, .f32⟩
  | 9 => ⟨S32768x1, .f32⟩
  | 10 => ⟨S32768x1, .f32⟩
  | 11 => ⟨S32768x1, .f32⟩
  | 12 => ⟨S32768x128, .f32⟩
  | 13 => ⟨S32768x128, .f32⟩
  | 14 => ⟨S_, .f32⟩
  | 15 => ⟨S16x128, .f32⟩
  | 16 => ⟨S32768x1, .i32⟩
  | 17 => ⟨S16x128, .f32⟩
  | 18 => ⟨S16x256, .f32⟩
  | 19 => ⟨S256x128, .f32⟩
  | 20 => ⟨S16x128, .f32⟩
  | 21 => ⟨S1x128, .f32⟩
  | 22 => ⟨S16x128, .f32⟩
  | 23 => ⟨S16x128, .f32⟩
  | 24 => ⟨S128x128, .f32⟩
  | 25 => ⟨S16x128, .f32⟩
  | 26 => ⟨S1x128, .f32⟩
  | 27 => ⟨S16x128, .f32⟩
  | 28 => ⟨S16x128, .f32⟩
  | 29 => ⟨S16x128, .f32⟩
  | 30 => ⟨S16x128, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_call0_c : Ref sig .tc := ⟨.hbm, 15, rfl⟩
abbrev main_call0_call0_v0 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call1_v0 : Ref sig .tc := ⟨.hbm, 22, rfl⟩
abbrev main_call1_v1 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_c_1 : Ref sig .tc := ⟨.hbm, 27, rfl⟩
abbrev main_v6 : Ref sig .tc := ⟨.hbm, 28, rfl⟩
abbrev main_call2_call0_c : Ref sig .tc := ⟨.hbm, 29, rfl⟩
abbrev main_call2_call0_v0 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_c_4 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_5 : Ref sig .tc := ⟨.hbm, 42, rfl⟩
abbrev main_v15 : Ref sig .tc := ⟨.hbm, 43, rfl⟩
abbrev main_v16 : Ref sig .tc := ⟨.hbm, 44, rfl⟩
abbrev main_call3_call0_c : Ref sig .tc := ⟨.hbm, 45, rfl⟩
abbrev main_call3_call0_v0 : Ref sig .tc := ⟨.hbm, 46, rfl⟩
abbrev main_v17 : Ref sig .tc := ⟨.hbm, 47, rfl⟩
abbrev main_c_6 : Ref sig .tc := ⟨.hbm, 48, rfl⟩
abbrev main_v18 : Ref sig .tc := ⟨.hbm, 49, rfl⟩
abbrev main_v19 : Ref sig .tc := ⟨.hbm, 50, rfl⟩
abbrev main_call4_c : Ref sig .tc := ⟨.hbm, 51, rfl⟩
abbrev main_call4_v0 : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_call4_c_1 : Ref sig .tc := ⟨.hbm, 59, rfl⟩
abbrev main_call4_c_2 : Ref sig .tc := ⟨.hbm, 60, rfl⟩
abbrev main_call4_v6 : Ref sig .tc := ⟨.hbm, 61, rfl⟩
abbrev main_call4_v7 : Ref sig .tc := ⟨.hbm, 62, rfl⟩
abbrev main_call4_v8 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_c_3 : Ref sig .tc := ⟨.hbm, 67, rfl⟩
abbrev main_call4_v12 : Ref sig .tc := ⟨.hbm, 68, rfl⟩
abbrev main_call4_v13 : Ref sig .tc := ⟨.hbm, 69, rfl⟩
abbrev main_call4_c_4 : Ref sig .tc := ⟨.hbm, 70, rfl⟩
abbrev main_call4_v14 : Ref sig .tc := ⟨.hbm, 71, rfl⟩
abbrev main_v20 : Ref sig .tc := ⟨.hbm, 72, rfl⟩
abbrev main_call5_c : Ref sig .tc := ⟨.hbm, 73, rfl⟩
abbrev main_call5_v0 : Ref sig .tc := ⟨.hbm, 74, rfl⟩
abbrev main_call5_v1 : Ref sig .tc := ⟨.hbm, 75, rfl⟩
abbrev main_call5_c_0 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_c_1 : Ref sig .tc := ⟨.hbm, 81, rfl⟩
abbrev main_call5_c_2 : Ref sig .tc := ⟨.hbm, 82, rfl⟩
abbrev main_call5_v6 : Ref sig .tc := ⟨.hbm, 83, rfl⟩
abbrev main_call5_v7 : Ref sig .tc := ⟨.hbm, 84, rfl⟩
abbrev main_call5_v8 : Ref sig .tc := ⟨.hbm, 85, rfl⟩
abbrev main_call5_v9 : Ref sig .tc := ⟨.hbm, 86, rfl⟩
abbrev main_call5_v10 : Ref sig .tc := ⟨.hbm, 87, rfl⟩
abbrev main_call5_v11 : Ref sig .tc := ⟨.hbm, 88, rfl⟩
abbrev main_call5_c_3 : Ref sig .tc := ⟨.hbm, 89, rfl⟩
abbrev main_call5_v12 : Ref sig .tc := ⟨.hbm, 90, rfl⟩
abbrev main_call5_v13 : Ref sig .tc := ⟨.hbm, 91, rfl⟩
abbrev main_call5_v14 : Ref sig .tc := ⟨.hbm, 92, rfl⟩
abbrev main_call5_cst : Ref sig .tc := ⟨.hbm, 93, rfl⟩
abbrev main_call5_v15 : Ref sig .tc := ⟨.hbm, 94, rfl⟩
abbrev main_v21 : Ref sig .tc := ⟨.hbm, 95, rfl⟩
abbrev main_call6_c : Ref sig .tc := ⟨.hbm, 96, rfl⟩
abbrev main_call6_v0 : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_v5 : Ref sig .tc := ⟨.hbm, 103, rfl⟩
abbrev main_call6_c_1 : Ref sig .tc := ⟨.hbm, 104, rfl⟩
abbrev main_call6_c_2 : Ref sig .tc := ⟨.hbm, 105, rfl⟩
abbrev main_call6_v6 : Ref sig .tc := ⟨.hbm, 106, rfl⟩
abbrev main_call6_v7 : Ref sig .tc := ⟨.hbm, 107, rfl⟩
abbrev main_call6_v8 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_c_3 : Ref sig .tc := ⟨.hbm, 112, rfl⟩
abbrev main_call6_v12 : Ref sig .tc := ⟨.hbm, 113, rfl⟩
abbrev main_call6_v13 : Ref sig .tc := ⟨.hbm, 114, rfl⟩
abbrev main_call6_v14 : Ref sig .tc := ⟨.hbm, 115, rfl⟩
abbrev main_call6_cst : Ref sig .tc := ⟨.hbm, 116, rfl⟩
abbrev main_call6_v15 : Ref sig .tc := ⟨.hbm, 117, rfl⟩
abbrev main_v22 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_v30 : Ref sig .tc := ⟨.hbm, 126, rfl⟩
abbrev main_cst : Ref sig .tc := ⟨.hbm, 127, rfl⟩
abbrev main_v31 : Ref sig .tc := ⟨.hbm, 128, rfl⟩
abbrev main_v32 : Ref sig .tc := ⟨.hbm, 129, rfl⟩
abbrev main_cst_7 : Ref sig .tc := ⟨.hbm, 130, rfl⟩
abbrev main_v33 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_cst_8 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩

abbrev nD : Nat := 1
abbrev τ : Topo := Topo.v7x

variable {F : FTy → Type} [FloatOps F]
-- ==== Proof.PreFacts.lean ====
/- What the precondition says of the arguments: every section is 2048 tokens long, and the gate's output weights are real
   numbers. -/
module

public import proofs.«01_k».proof.Pre_even_sections_finite_gate
public import Idealize.ShloMosaic.Lib.ReduceAll
public import Idealize.ShloMosaic.Lib.Affine
public import Idealize.ShloMosaic.Lib.Pointwise
public import Idealize.ShloMosaic.PureOps.Ideal

@[expose] public section

noncomputable section

namespace Cert.Pre_even_sections_finite_gate

open Idealize.ShloMosaic

/-- The shape relations that the precondition's operations take. -/
instance facts : Facts where
  bcast_S_S16 := by decide
  reducesTo_S16_S_d0 := by decide
  h_S_ := by decide
  bcast_S_S1x128 := by decide
  reducesTo_S1x128_S_d0_1 := by decide

/-- The shape without axes has one index. -/
theorem scalar_idx : Subsingleton S_.Idx := ⟨fun a b => funext fun k => k.elim0⟩

/-- The float word of infinity is the largest extended real. -/
theorem word_inf : (FloatOps.ofBits .f32 0x7F800000#32 : Ideal .f32) = (⊤ : EReal) := by
  simp [Ideal.ofBits_def, Ideal.ofBits, Ideal.ieee]

/-- An extended real of absolute value below infinity is a real number. -/
theorem real_of_abs_lt (v : EReal) (h : max v (-v) < ⊤) : ∃ w : ℝ, v = (w : EReal) := by
  induction v with
  | bot => simp at h
  | coe w => exact ⟨w, rfl⟩
  | top => simp at h

variable (a0 : FVec Ideal S32768x128 .f32) (a1 : FVec Ideal S100000x128 .f32) (a2 : IVec S16 32) (a3 : FVec Ideal S32768 .f32)
  (a4 : FVec Ideal S16x128 .f32) (a5 : IVec S_ 32) (a6 : FVec Ideal S32768x128 .f32) (a7 : FVec Ideal S1x128 .f32)
  (a8 : FVec Ideal S1 .f32) (a9 : FVec Ideal S128x384 .f32) (a10 : FVec Ideal S128 .f32) (a11 : FVec Ideal S128x256 .f32)
  (a12 : FVec Ideal S128 .f32) (a13 : FVec Ideal S128x128 .f32) (a14 : FVec Ideal S128 .f32)

/-- Where the precondition holds, every section has 2048 tokens. -/
theorem lengths (h : fn (F := Ideal) a0 a1 a2 a3 a4 a5 a6 a7 a8 a9 a10 a11 a12 a13 a14 = fun _ => 1#1) :
    a2 = fun _ => 2048#32 := by
  haveI := scalar_idx
  have h0 := (IntOp.andi_eq_one.1 (congrFun h (fun k => k.elim0))).1
  exact funext fun i => IntOp.cmpi_eq.1 (Host.reduce_andi_all _ _ _ _ _ h0 i)

/-- Where the precondition holds, the gate's output weights are real numbers. -/
theorem weights (h : fn (F := Ideal) a0 a1 a2 a3 a4 a5 a6 a7 a8 a9 a10 a11 a12 a13 a14 = fun _ => 1#1) (i : S1x128.Idx) :
    ∃ w : ℝ, a7 i = (w : EReal) := by
  haveI := scalar_idx
  have h0 := (IntOp.andi_eq_one.1 (congrFun h (fun k => k.elim0))).2
  have h1 : Ideal.cmp .olt (max (a7 i) (-(a7 i))) (FloatOps.ofBits .f32 0x7F800000#32 : Ideal .f32) = 1#1 :=
    Host.reduce_andi_all _ _ _ _ _ h0 i
  rw [word_inf] at h1
  refine real_of_abs_lt _ ?_
  by_contra hn
  exact absurd (h1.symm.trans (congrArg BitVec.ofBool (decide_eq_false hn))) (by decide)

end Cert.Pre_even_sections_finite_gate

end
-- ==== Proof.Gate.lean ====
/- The arithmetic of one section, over the extended reals: the kernel's form of the gate (a hyperbolic tangent of half the
   score, times half the weight, plus half the weight) and its order of additions give the reference's form (the logistic
   function of the score times the weight). Nothing here mentions either program. -/
module

public import Idealize.ShloMosaic.PureOps.Ideal
public import Mathlib.Algebra.BigOperators.Fin

@[expose] public section

noncomputable section

namespace Cert.Gate

open Idealize.ShloMosaic

/-- One half, as an extended real. -/
def half : EReal := ((1 / 2 : ℝ) : EReal)

/-- The 32-bit pattern the kernel multiplies by denotes one half. -/
theorem ofBits_half : Ideal.ofBits .f32 0x3F000000#32 = half := by
  simp [Ideal.ofBits, Ideal.ieee, half, -EReal.coe_mul]
  norm_num

theorem half_nonneg : (0 : EReal) ≤ half := by
  rw [half, ← EReal.coe_zero, EReal.coe_le_coe_iff]; norm_num

theorem half_ne_top : half ≠ ⊤ := EReal.coe_ne_top _

/-- Multiplication by one half distributes over every sum of two extended reals. -/
theorem half_mul_add (a b : EReal) : half * (a + b) = half * a + half * b :=
  EReal.left_distrib_of_nonneg_of_ne_top half_nonneg half_ne_top a b

/-- Multiplication by one half distributes over a finite sum. -/
theorem half_mul_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_mul_add, ih]

/-- Weights halved before a scalar product halve the product. -/
theorem sum_mul_half {n : Nat} (a w : Fin n → EReal) : ∑ k, a k * (half * w k) = half * ∑ k, a k * w k := by
  rw [half_mul_sum]
  exact Finset.sum_congr rfl fun k _ => mul_left_comm _ _ _

/-- The identity behind the kernel's gate at a real score: `(tanh (z / 2) + 1) / 2` is `1 / (1 + exp (-z))`. -/
theorem real_gate (z : ℝ) : Real.tanh (1 / 2 * z) * (1 / 2) + 1 / 2 = (1 + Real.exp (-z))⁻¹ := by
  have h1 : Real.exp z = Real.exp (1 / 2 * z) * Real.exp (1 / 2 * z) := by rw [← Real.exp_add]; ring_nf
  have hp := Real.exp_pos (1 / 2 * z)
  rw [Real.tanh_eq_sinh_div_cosh, Real.sinh_eq, Real.cosh_eq, Real.exp_neg, Real.exp_neg, h1]
  field_simp
  ring

/-- The kernel's gate times a real weight is the logistic function times that weight, at every extended real score. -/
theorem gate (z : EReal) (w : ℝ) :
    Ideal.tanh (half * z) * (half * (w : EReal)) + half * (w : EReal) = Ideal.logistic z * (w : EReal) := by
  have hh : half * (w : EReal) = ((1 / 2 * w : ℝ) : EReal) := by rw [half, ← EReal.coe_mul]
  rw [hh]
  induction z using EReal.rec with
  | bot =>
    rw [half, EReal.coe_mul_bot_of_pos (by norm_num), Ideal.logistic_bot]
    change (-1 : EReal) * _ + _ = _
    rw [zero_mul, neg_mul, one_mul, ← EReal.coe_neg, ← EReal.coe_add, neg_add_cancel, EReal.coe_zero]
  | coe r =>
    rw [half, ← EReal.coe_mul, Ideal.logistic_coe]
    change ((Real.tanh (1 / 2 * r) : ℝ) : EReal) * _ + _ = _
    rw [← EReal.coe_mul, ← EReal.coe_add, ← EReal.coe_mul, ← real_gate]
    congr 1; ring
  | top =>
    rw [half, EReal.coe_mul_top_of_pos (by norm_num), Ideal.logistic_top]
    change (1 : EReal) * _ + _ = _
    rw [one_mul, one_mul, ← EReal.coe_add]
    congr 1; ring

/-- The three feature rows of a token side by side: the section's last row, the token's own row, its second row. -/
def feat (v x u : Fin 128 → EReal) (k : Fin 384) : EReal :=
  if h : k.val < 128 then v ⟨k.val, h⟩
  else if h' : k.val < 256 then x ⟨k.val - 128, by omega⟩
  else u ⟨k.val - 256, by omega⟩

/-- Two rows side by side. -/
def feat₂ (v s : Fin 128 → EReal) (k : Fin 256) : EReal :=
  if h : k.val < 128 then v ⟨k.val, h⟩ else s ⟨k.val - 128, by omega⟩

/-- A sum over 256 columns is the sum over the first 128 and that over the last 128. -/
theorem sum_256 (f : Fin 256 → EReal) :
    ∑ k, f k = (∑ k : Fin 128, f ⟨k.val, by omega⟩) + ∑ k : Fin 128, f ⟨128 + k.val, by omega⟩ :=
  Fin.sum_univ_add (a := 128) (b := 128) f

/-- A sum over 384 columns in three parts of 128. -/
theorem sum_384 (f : Fin 384 → EReal) :
    ∑ k, f k = (∑ k : Fin 128, f ⟨k.val, by omega⟩)
      + ((∑ k : Fin 128, f ⟨128 + k.val, by omega⟩) + ∑ k : Fin 128, f ⟨256 + k.val, by omega⟩) := by
  refine (Fin.sum_univ_add (a := 128) (b := 256) f).trans ?_
  congr 1
  refine (sum_256 _).trans ?_
  congr 1

section Section

variable (v x u : Fin 128 → EReal) (W2 : Fin 128 → Fin 384 → EReal) (b2 W1 : Fin 128 → EReal) (b1 : EReal)

/-- A token's score in one gate column. -/
def score (j : Fin 128) : EReal := (∑ k, feat v x u k * W2 j k) + b2 j

/-- The same score as the kernel adds it up, from weights and biases halved beforehand. -/
def halfScore (j : Fin 128) : EReal :=
  ∑ k : Fin 128, x k * (half * W2 j ⟨128 + k.val, by omega⟩)
    + ∑ k : Fin 128, u k * (half * W2 j ⟨256 + k.val, by omega⟩)
    + (∑ k : Fin 128, v k * (half * W2 j ⟨k.val, by omega⟩) + half * b2 j)

/-- The kernel's score is half the score. -/
theorem halfScore_eq (j : Fin 128) : halfScore v x u W2 b2 j = half * score v x u W2 b2 j := by
  unfold halfScore score
  rw [sum_mul_half, sum_mul_half, sum_mul_half, half_mul_add, sum_384, half_mul_add, half_mul_add]
  have e0 : ∀ k : Fin 128, feat v x u ⟨k.val, by omega⟩ = v k := fun k => by simp [feat]
  have e1 : ∀ k : Fin 128, feat v x u ⟨128 + k.val, by omega⟩ = x k := fun k => by
    simp only [feat]; rw [dif_neg (by omega), dif_pos (by omega)]; congr 1; ext; simp
  have e2 : ∀ k : Fin 128, feat v x u ⟨256 + k.val, by omega⟩ = u k := fun k => by
    simp only [feat]; rw [dif_neg (by omega), dif_neg (by omega)]; congr 1; ext; simp
  simp only [e0, e1, e2]
  ac_rfl

/-- A token's attention weight. -/
def alpha : EReal := (∑ j, Ideal.logistic (score v x u W2 b2 j) * W1 j) + b1

/-- The same weight as the kernel computes it. -/
def halfAlpha : EReal :=
  (∑ j, Ideal.tanh (halfScore v x u W2 b2 j) * (half * W1 j)) + (b1 + half * ∑ j, W1 j)

/-- Where the gate's output weights are real numbers the kernel's attention weight is the token's. -/
theorem halfAlpha_eq (hW : ∀ j, ∃ w : ℝ, W1 j = (w : EReal)) :
    halfAlpha v x u W2 b2 W1 b1 = alpha v x u W2 b2 W1 b1 := by
  unfold halfAlpha alpha
  have e : ∀ j, Ideal.logistic (score v x u W2 b2 j) * W1 j
      = Ideal.tanh (halfScore v x u W2 b2 j) * (half * W1 j) + half * W1 j := fun j => by
    obtain ⟨w, hw⟩ := hW j
    rw [halfScore_eq, hw, gate]
  simp only [e]
  rw [Finset.sum_add_distrib, half_mul_sum]
  ac_rfl

end Section

section Pool

variable (x u : Fin 2048 → Fin 128 → EReal) (nc : Fin 2048 → EReal) (ue : Fin 128 → EReal)
  (W2 : Fin 128 → Fin 384 → EReal) (b2 W1 : Fin 128 → EReal) (b1 : EReal)
  (W5 : Fin 128 → Fin 256 → EReal) (b5 : Fin 128 → EReal) (UL : Fin 128 → Fin 128 → EReal) (ulb : Fin 128 → EReal)

/-- A section's rows added up, each by its count and its attention weight; the section's last row is row 2047. -/
def pooled (k : Fin 128) : EReal := ∑ i, nc i * alpha (x 2047) (x i) (u i) W2 b2 W1 b1 * x i k

/-- A section's result. -/
def result (j : Fin 128) : EReal :=
  ((∑ k, feat₂ (x 2047) (pooled x u nc W2 b2 W1 b1) k * W5 j k) + b5 j) + Ideal.tanh ((∑ k, ue k * UL j k) + ulb j)

/-- A section's result as the kernel computes it. -/
def kernelResult (j : Fin 128) : EReal :=
  (∑ k : Fin 128, x 2047 k * W5 j ⟨k.val, by omega⟩)
      + (∑ k : Fin 128, (∑ i, nc i * (halfAlpha (x 2047) (x i) (u i) W2 b2 W1 b1 * x i k)) * W5 j ⟨128 + k.val, by omega⟩)
      + b5 j
    + Ideal.tanh ((∑ k, ue k * UL j k) + ulb j)

/-- The two agree where the gate's output weights are real numbers. -/
theorem kernelResult_eq (hW : ∀ j, ∃ w : ℝ, W1 j = (w : EReal)) (j : Fin 128) :
    kernelResult x u nc ue W2 b2 W1 b1 W5 b5 UL ulb j = result x u nc ue W2 b2 W1 b1 W5 b5 UL ulb j := by
  unfold kernelResult result
  have e0 : ∀ (s : Fin 128 → EReal) (k : Fin 128), feat₂ (x 2047) s ⟨k.val, by omega⟩ = x 2047 k := fun s k => by simp [feat₂]
  have e1 : ∀ (s : Fin 128 → EReal) (k : Fin 128), feat₂ (x 2047) s ⟨128 + k.val, by omega⟩ = s k := fun s k => by
    simp only [feat₂]; rw [dif_neg (by omega)]; congr 1; ext; simp
  rw [sum_256]
  simp only [e0, e1, pooled, halfAlpha_eq _ _ _ _ _ _ _ hW, mul_assoc]

end Pool

end Cert.Gate

end
-- ==== Proof.KernelBlock.lean ====
/- What one grid point stores: for each of its two sections, the row `Gate.kernelResult` of the section's blocks. -/
module

public import proofs.«01_k».proof.Proof.Gen.KernelIdeal.Frame
public import proofs.«01_k».proof.Proof.Gate
public import Idealize.ShloMosaic.Lib.Pointwise

@[expose] public section

set_option maxRecDepth 16384

noncomputable section

namespace Cert.KernelIdeal.Section

open Idealize.ShloMosaic Cert.KernelIdeal Cert.KernelIdeal.Gen

variable (x0 x1 : Vec Ideal S4096x128 .f32) (x2 : Vec Ideal S1x2x2048 .f32) (x3 : Vec Ideal S1x2x128 .f32)
  (x4 : Vec Ideal S128x384 .f32) (x5 x6 : Vec Ideal S1x128 .f32) (x7 : Vec Ideal S1x1 .f32)
  (x8 : Vec Ideal S128x256 .f32) (x9 : Vec Ideal S1x128 .f32) (x10 : Vec Ideal S128x128 .f32) (x11 : Vec Ideal S1x128 .f32)

/-- Row `i` of the grid point's section `s`. -/
abbrev rowAt (s : Fin 2) (i : Fin 2048) : Fin 4096 := ⟨2048 * s.val + i.val, by omega⟩

/-- The row a grid point computes for its section `s`. -/
abbrev row (s : Fin 2) (j : Fin 128) : EReal :=
  Gate.kernelResult (fun i k => x0 (ix2 (rowAt s i) k)) (fun i k => x1 (ix2 (rowAt s i) k)) (fun i => x2 (ix3 0 s i))
    (fun k => x3 (ix3 0 s k)) (fun j k => x4 (ix2 j k)) (fun j => x5 (ix2 0 j)) (fun j => x6 (ix2 0 j)) (x7 (ix2 0 0))
    (fun j k => x8 (ix2 j k)) (fun j => x9 (ix2 0 j)) (fun j k => x10 (ix2 j k)) (fun j => x11 (ix2 0 j)) j

/-- Where the second store puts column `j`. -/
theorem second_at (j : Fin 128) : (ix3 0 1 j : S1x2x128.Idx) = r0_15.emb (ix3 0 0 j : S1x1x128.Idx) := by
  funext a
  refine Fin.ext ?_
  match a with
  | ⟨0, _⟩ => rfl
  | ⟨1, _⟩ => rfl
  | ⟨2, _⟩ => exact (by show j.val = 0 + 1 * j.val; omega)

/-- Where the first store puts column `j`. -/
theorem first_at (j : Fin 128) : (ix3 0 0 j : S1x2x128.Idx) = r0_8.emb (ix3 0 0 j : S1x1x128.Idx) := by
  funext a
  refine Fin.ext ?_
  match a with
  | ⟨0, _⟩ => rfl
  | ⟨1, _⟩ => rfl
  | ⟨2, _⟩ => exact (by show j.val = 0 + 1 * j.val; omega)

/-- The second store leaves the first section's row alone. -/
theorem first_not_mem (j : Fin 128) : r0_8.emb (ix3 0 0 j : S1x1x128.Idx) ∉ r0_15.set := by
  refine Rect.not_mem_set_of_axis _ _ 1 1 1 rfl rfl rfl ?_
  rw [← first_at]
  exact Or.inl Nat.zero_lt_one

/-- What a grid point leaves at its second section. -/
theorem out_second (j : Fin 128) :
    out0_12 x0 x1 x2 x3 x4 x5 x6 x7 x8 x9 x10 x11 (ix3 0 1 j) = row x0 x1 x2 x3 x4 x5 x6 x7 x8 x9 x10 x11 1 j := by
  unfold out0_12
  rw [second_at, View.canon_cons_emb]
  unfold_payloads
  pointwise [dot_S1x128_S128x128_S1x128_1_1_0_0_n_n, dot_S2048x128_S128x128_S2048x128_1_1_0_0_n_n,
    dot_S2048x128_S128x1_S2048x1_1_0_0_1_n_n, dot_S1x2048_S2048x128_S1x128_1_0_0_1_n_n]
  simp only [Gate.ofBits_half, Finset.univ_unique, Finset.sum_singleton]
  rfl

/-- What a grid point leaves at its first section. -/
theorem out_first (j : Fin 128) :
    out0_12 x0 x1 x2 x3 x4 x5 x6 x7 x8 x9 x10 x11 (ix3 0 0 j) = row x0 x1 x2 x3 x4 x5 x6 x7 x8 x9 x10 x11 0 j := by
  have e : ∀ i : Fin 2048, rowAt 0 i = ⟨i.val, by omega⟩ := fun i => Fin.ext (by show 2048 * 0 + i.val = i.val; omega)
  unfold out0_12 row
  simp only [e]
  rw [first_at, View.canon_cons_of_not_mem, View.canon_cons_emb]
  · unfold_payloads
    pointwise [dot_S1x128_S128x128_S1x128_1_1_0_0_n_n, dot_S2048x128_S128x128_S2048x128_1_1_0_0_n_n,
      dot_S2048x128_S128x1_S2048x1_1_0_0_1_n_n, dot_S1x2048_S2048x128_S1x128_1_0_0_1_n_n]
    simp only [Gate.ofBits_half, Finset.univ_unique, Finset.sum_singleton]
    rfl
  · exact first_not_mem j

end Cert.KernelIdeal.Section

end
-- ==== Proof.KernelValue.lean ====
/- The kernel's result: row `b`, column `j` holds `Gate.kernelResult` of section `b`'s rows, and every argument is as launched. -/
module

public import proofs.«01_k».proof.Proof.KernelBlock
public import Idealize.ShloMosaic.Lib.Pipeline.ValueKit
public import Idealize.ShloMosaic.Lib.Claim

@[expose] public section

set_option maxRecDepth 16384

noncomputable section

namespace Cert.KernelIdeal.Section

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Row `i` of section `b`. -/
abbrev rowOf (b : Fin 16) (i : Fin 2048) : Fin 32768 := ⟨2048 * b.val + i.val, by omega⟩

/-- The section that slot `s` of grid point `t` is. -/
abbrev secOf (t : Fin 8) (s : Fin 2) : Fin 16 := ⟨2 * t.val + s.val, by omega⟩

/-- The result's row for section `b`, from the argument arrays. -/
def rowFor (x u : Vec Ideal S32768x128 .f32) (nc : Vec Ideal S32768 .f32) (ue : Vec Ideal S16x128 .f32)
    (w1 : Vec Ideal S1x128 .f32) (b1 : Vec Ideal S1 .f32) (w2 : Vec Ideal S128x384 .f32) (b2 : Vec Ideal S128 .f32)
    (w5 : Vec Ideal S128x256 .f32) (b5 : Vec Ideal S128 .f32) (ul : Vec Ideal S128x128 .f32) (ulb : Vec Ideal S128 .f32)
    (b : Fin 16) (j : Fin 128) : EReal :=
  Gate.kernelResult (fun i k => x (ix2 (rowOf b i) k)) (fun i k => u (ix2 (rowOf b i) k)) (fun i => nc (ix1 (rowOf b i)))
    (fun k => ue (ix2 b k)) (fun j k => w2 (ix2 j k)) (fun j => b2 (ix1 j)) (fun j => w1 (ix2 0 j)) (b1 (ix1 0))
    (fun j k => w5 (ix2 j k)) (fun j => b5 (ix1 j)) (fun j k => ul (ix2 j k)) (fun j => ulb (ix1 j)) j

/-- `rowFor` of what the memory holds in the argument arrays. -/
abbrev rowIn (c : Dev nD) : Fin 16 → Fin 128 → EReal :=
  rowFor (m ((c : Thread nD τ).loc main_arg0)) (m ((c : Thread nD τ).loc main_arg6)) (m ((c : Thread nD τ).loc main_arg3))
    (m ((c : Thread nD τ).loc main_arg4)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- Every window's block at a grid point. -/
theorem idx : ∀ t : Fin cfg0.N, win0_0.index t = ![t.val, 0] ∧ win0_1.index t = ![t.val, 0] ∧ win0_2.index t = ![t.val, 0, 0]
    ∧ win0_3.index t = ![t.val, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0, 0] :=
  (by decide +kernel : ∀ t : Fin grid0.N, _)

/-- The row counts seen as two sections of 2048 for each grid point. -/
theorem cast_counts (x : Vec Ideal S32768 .f32) (t : Fin 8) (s : Fin 2) (i : Fin 2048) :
    shapeCast S8x2x2048 x shapeCasts_S32768_S8x2x2048 (ix3 t s i) = x (ix1 (rowOf (secOf t s) i)) := by
  refine shapeCast_apply x _ _ _ ?_
  rw [Shape.rowMajor_val_one, Shape.rowMajor_val_three]
  show 2048 * (2 * t.val + s.val) + i.val = (t.val * 2 + s.val) * 2048 + i.val
  omega

/-- The per-section rows seen as two for each grid point. -/
theorem cast_extra (x : Vec Ideal S16x128 .f32) (t : Fin 8) (s : Fin 2) (k : Fin 128) :
    shapeCast S8x2x128 x shapeCasts_S16x128_S8x2x128 (ix3 t s k) = x (ix2 (secOf t s) k) := by
  refine shapeCast_apply x _ _ _ ?_
  rw [Shape.rowMajor_val_two, Shape.rowMajor_val_three]
  show (2 * t.val + s.val) * 128 + k.val = (t.val * 2 + s.val) * 128 + k.val
  omega

/-- Two rows for each grid point seen as one for each section. -/
theorem cast_result (x : Vec Ideal S8x2x128 .f32) (t : Fin 8) (s : Fin 2) (k : Fin 128) :
    shapeCast S16x128 x shapeCasts_S8x2x128_S16x128 (ix2 (secOf t s) k) = x (ix3 t s k) := by
  refine shapeCast_apply x _ _ _ ?_
  rw [Shape.rowMajor_val_two, Shape.rowMajor_val_three]
  show (t.val * 2 + s.val) * 128 + k.val = (2 * t.val + s.val) * 128 + k.val
  omega

/-- The grid finds `main_v0` holding `main_arg3`, reshaped. -/
theorem V_v0 (c : Dev nD) : V m c main_v0 = shapeCast S8x2x2048 (m ((c : Thread nD τ).loc main_arg3)) shapeCasts_S32768_S8x2x2048 :=
  rfl

/-- The grid finds `main_v1` holding `main_arg4`, reshaped. -/
theorem V_v1 (c : Dev nD) : V m c main_v1 = shapeCast S8x2x128 (m ((c : Thread nD τ).loc main_arg4)) shapeCasts_S16x128_S8x2x128 :=
  rfl

/-- The grid finds `main_v2` holding `main_arg10`, reshaped. -/
theorem V_v2 (c : Dev nD) : V m c main_v2 = shapeCast S1x128 (m ((c : Thread nD τ).loc main_arg10)) shapeCasts_S128_S1x128 :=
  rfl

/-- The grid finds `main_v3` holding `main_arg8`, reshaped. -/
theorem V_v3 (c : Dev nD) : V m c main_v3 = shapeCast S1x1 (m ((c : Thread nD τ).loc main_arg8)) shapeCasts_S1_S1x1 :=
  rfl

/-- The grid finds `main_v4` holding `main_arg12`, reshaped. -/
theorem V_v4 (c : Dev nD) : V m c main_v4 = shapeCast S1x128 (m ((c : Thread nD τ).loc main_arg12)) shapeCasts_S128_S1x128 :=
  rfl

/-- The grid finds `main_v5` holding `main_arg14`, reshaped. -/
theorem V_v5 (c : Dev nD) : V m c main_v5 = shapeCast S1x128 (m ((c : Thread nD τ).loc main_arg14)) shapeCasts_S128_S1x128 :=
  rfl

section Blocks

variable (c : Dev nD) (t : Fin cfg0.N) (t' : Fin 8) (ht : t'.val = t.val) (s : Fin 2)

include ht

theorem iblk0 (i : Fin 2048) (k : Fin 128) :
    iblk m c 0 t (ix2 (rowAt s i) k) = m ((c : Thread nD τ).loc main_arg0) (ix2 (rowOf (secOf t' s) i) k) := by
  blk_ext! [iblk, V, idx t]

theorem iblk1 (i : Fin 2048) (k : Fin 128) :
    iblk m c 1 t (ix2 (rowAt s i) k) = m ((c : Thread nD τ).loc main_arg6) (ix2 (rowOf (secOf t' s) i) k) := by
  blk_ext! [iblk, V, idx t]

theorem iblk2 (i : Fin 2048) :
    iblk m c 2 t (ix3 0 s i) = m ((c : Thread nD τ).loc main_arg3) (ix1 (rowOf (secOf t' s) i)) := by
  have e : iblk m c 2 t (ix3 0 s i) = V m c main_v0 (ix3 t' s i) := by
    blk_ext [iblk, idx t]
  rw [e, V_v0]
  exact cast_counts _ t' s i

theorem iblk3 (k : Fin 128) :
    iblk m c 3 t (ix3 0 s k) = m ((c : Thread nD τ).loc main_arg4) (ix2 (secOf t' s) k) := by
  have e : iblk m c 3 t (ix3 0 s k) = V m c main_v1 (ix3 t' s k) := by
    blk_ext [iblk, idx t]
  rw [e, V_v1]
  exact cast_extra _ t' s k

omit ht

theorem iblk4 (j : Fin 128) (k : Fin 384) : iblk m c 4 t (ix2 j k) = m ((c : Thread nD τ).loc main_arg9) (ix2 j k) := by
  blk_ext! [iblk, V, idx t]

theorem iblk5 (j : Fin 128) : iblk m c 5 t (ix2 0 j) = m ((c : Thread nD τ).loc main_arg10) (ix1 j) := by
  blk_simp [iblk]
  rw [V_v2]
  pointwise
  blk_ext [idx t]

theorem iblk6 (j : Fin 128) : iblk m c 6 t (ix2 0 j) = m ((c : Thread nD τ).loc main_arg7) (ix2 0 j) := by
  blk_ext! [iblk, V, idx t]

theorem iblk7 : iblk m c 7 t (ix2 0 0) = m ((c : Thread nD τ).loc main_arg8) (ix1 0) := by
  blk_simp [iblk]
  rw [V_v3]
  pointwise
  blk_ext [idx t]

theorem iblk8 (j : Fin 128) (k : Fin 256) : iblk m c 8 t (ix2 j k) = m ((c : Thread nD τ).loc main_arg11) (ix2 j k) := by
  blk_ext! [iblk, V, idx t]

theorem iblk9 (j : Fin 128) : iblk m c 9 t (ix2 0 j) = m ((c : Thread nD τ).loc main_arg12) (ix1 j) := by
  blk_simp [iblk]
  rw [V_v4]
  pointwise
  blk_ext [idx t]

theorem iblk10 (j : Fin 128) (k : Fin 128) : iblk m c 10 t (ix2 j k) = m ((c : Thread nD τ).loc main_arg13) (ix2 j k) := by
  blk_ext! [iblk, V, idx t]

theorem iblk11 (j : Fin 128) : iblk m c 11 t (ix2 0 j) = m ((c : Thread nD τ).loc main_arg14) (ix1 j) := by
  blk_simp [iblk]
  rw [V_v5]
  pointwise
  blk_ext [idx t]

/-- What grid point `t` leaves at its slot `s`: the row of section `2 t + s`. -/
theorem out_at (j : Fin 128) (ht : t'.val = t.val) :
    out0_12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix3 0 s j)
      = rowIn m c (secOf t' s) j := by
  have h : out0_12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix3 0 s j)
      = row (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) s j := by
    match s with
    | ⟨0, _⟩ => exact out_first ..
    | ⟨1, _⟩ => exact out_second ..
  rw [h]
  unfold row rowIn rowFor
  simp only [iblk0 m c t t' ht s, iblk1 m c t t' ht s, iblk2 m c t t' ht s, iblk3 m c t t' ht s, iblk4, iblk5, iblk6, iblk7, iblk8,
    iblk9, iblk10, iblk11]

end Blocks

/-- The output array before its last reshape: its row `(t, s)` is the row of section `2 t + s`. -/
def slots (c : Dev nD) : Vec Ideal S8x2x128 .f32 := fun i => rowIn m c (secOf (i 0) (i 1)) (i 2)

/-- The result: its row `b` is the row of section `b`. -/
def rows (c : Dev nD) : Vec Ideal S16x128 .f32 := fun i => rowIn m c (i 0) (i 1)

/-- The output array once every grid point has written its block back. -/
theorem final (c : Dev nD) : (dats m 0 c).arrAt 12 cfg0.N = slots m c := by
  refine (dats m 0 c).arrAt_eq_of_covers 12 _ (by decide +kernel) fun t hf y => ?_
  blk_simp
  rw [after0_12]
  obtain ⟨s, j, rfl⟩ : ∃ (s : Fin 2) (j : Fin 128), y = ix3 0 s j := by
    refine ⟨y 1, y 2, ?_⟩
    funext a
    match a with
    | ⟨0, _⟩ => exact Fin.ext (Nat.lt_one_iff.mp (y 0).isLt)
    | ⟨1, _⟩ => rfl
    | ⟨2, _⟩ => rfl
  have ht : t.val < 8 := t.isLt
  have e : ((cfg0.win 12).blk t).view.emb (ix3 0 s j) = ix3 (⟨t.val, ht⟩ : Fin 8) s j := by
    blk_ext [idx t]
  refine (out_at m c t ⟨t.val, ht⟩ s j rfl).trans ?_
  exact (congrArg (slots m c) e).symm

/-- The last reshape of the output array is the result. -/
theorem reshaped (c : Dev nD) : shapeCast S16x128 (slots m c) shapeCasts_S8x2x128_S16x128 = rows m c := by
  funext i
  have h0 : (i 0).val < 16 := (i 0).isLt
  obtain ⟨t, s, j, rfl⟩ : ∃ (t : Fin 8) (s : Fin 2) (j : Fin 128), i = ix2 (secOf t s) j := by
    refine ⟨⟨(i 0).val / 2, by omega⟩, ⟨(i 0).val % 2, by omega⟩, i 1, ?_⟩
    funext a
    refine Fin.ext ?_
    match a with
    | ⟨0, _⟩ => exact (Nat.div_add_mod (i 0).val 2).symm
    | ⟨1, _⟩ => rfl
  exact cast_result _ t s j

/-- What the operations after the grid leave in the result's buffer. -/
theorem tail (c : Dev nD) : Pipeline.afterTail₀ cfgs (dats m) 0 (V0 m) [hostOps1] c main_v7 = rows m c := by
  rw [← reshaped, ← final]
  exact congrArg (fun x => shapeCast S16x128 x shapeCasts_S8x2x128_S16x128)
    (Pipeline.withArrays_arr spec0 (by decide) c (V0 m c) (fun w => (dats m 0 c).arrAt w cfg0.N) 12)

/-- The idealized kernel's run: the result's buffer ends holding `rows`. -/
theorem run_rows : θ_run defs (onTc (τ := τ) (main (F := Ideal))) ⟨m, fun _ => 0, ρ⟩
    (fun r => ∀ c : Dev nD, r.2.mem ((c.tc : Thread nD τ).loc main_v7) = rows m c) :=
  (θ_run defs _ _).mono (fun _ h c => (h.rest_eq c main_v7 (by decide)).trans (tail m c)) (run_main m ρ)

end Cert.KernelIdeal.Section

end
-- ==== Proof.RefIndex.lean ====
/- The reference's index arithmetic where every section holds 2048 tokens: a running sum of the section lengths gives each
   section's last row, a scatter of ones at the sections' first rows followed by a running sum gives every row's section,
   and the three gathers fetch inside their tables. Section `b` is rows `2048 b` to `2048 b + 2047`. -/
module

public import proofs.«01_k».proof.Proof.Gen.ReferenceIdeal.Read
public import Idealize.ShloMosaic.Lib.Routing.OpsSet
public import Idealize.ShloMosaic.Lib.ReduceAll

@[expose] public section

set_option maxRecDepth 16384

noncomputable section

namespace Cert.ReferenceIdeal.Sections

open Idealize.ShloMosaic Idealize.ShloMosaic.ValueIdx Idealize.ShloMosaic.Routing
open Cert.ReferenceIdeal Cert.ReferenceIdeal.Gen Cert.ReferenceIdeal.Read

/-- The section lengths of the precondition: 2048 sixteen times. -/
abbrev len : IVec S16 32 := fun _ => 2048#32

/-! ## Words -/

/-- A table index between 0 and its bound passes the gathers' range test. -/
theorem in_range (k K : Nat) (hk : k ≤ K) (hK : K < 2 ^ 31) :
    IntOp.andi (IntOp.cmpi .sge (BitVec.ofNat 32 k) 0#32) (IntOp.cmpi .sle (BitVec.ofNat 32 k) (BitVec.ofNat 32 K)) = 1#1 := by
  have h0 : (0#32 : BitVec 32) = BitVec.ofNat 32 0 := rfl
  rw [h0, WordCmp.cmpi_sge_ofNat (by omega) (by omega), WordCmp.cmpi_sle_ofNat (by omega) (by omega), WordCmp.andi_ofBool]
  simp [hk]

/-- A table index below 2 ^ 31 is not wrapped. -/
theorem no_wrap (k : Nat) (hk : k < 2 ^ 31) (a : BitVec 32) :
    Scalar.select (IntOp.cmpi .slt (BitVec.ofNat 32 k) 0#32) a (BitVec.ofNat 32 k) = BitVec.ofNat 32 k :=
  wrap_of_lt _ _ (by rw [BitVec.toNat_ofNat]; omega)

/-! ## The sections' rows -/

/-- The last row of section `b`. -/
theorem last_row (b : Fin 16) : val_main_call5_v5 (F := Ideal) len (ix2 b (0 : Fin 1)) = BitVec.ofNat 32 (2048 * b.val + 2047) := by
  revert b; decide +kernel

/-- It lies inside the table. -/
theorem last_row_in (b : Fin 16) : val_main_call5_v12 (F := Ideal) len (ix1 b) = 1#1 := by
  revert b; decide +kernel

/-- There are sixteen updates. -/
theorem update_lt (n : Fin S16.numel) : 2048 * n.val < 32768 := by
  have h := n.isLt
  have e : S16.numel = 16 := numel1 16
  omega

/-- The scatter's update `n` lands at the first row of section `n`. -/
theorem first_row (n : Fin S16.numel) :
    scatter_S32768_S16x1_S16_n_0_0_1.resultIdx? (S16.rowMajor.symm n) (val_main_v14 (F := Ideal) len)
      = some (ix1 ⟨2048 * n.val, update_lt n⟩) := by
  revert n; decide +kernel

/-- So it lands at row `t` exactly when section `n` starts there. -/
theorem lands (n : Fin S16.numel) (t : Fin 32768) :
    scatter_S32768_S16x1_S16_n_0_0_1.resultIdx? (S16.rowMajor.symm n) (val_main_v14 (F := Ideal) len) = some (ix1 t)
      ↔ 2048 * n.val = t.val := by
  rw [first_row n]
  constructor
  · intro h
    have h' := congrFun (Option.some.inj h) 0
    exact congrArg Fin.val h'
  · intro h
    exact congrArg some (congrArg ix1 (Fin.ext h))

/-- Ones added up along a list count its members that qualify. -/
theorem fold_ones {ι : Type} (p : ι → Prop) [DecidablePred p] (l : List ι) (z : Nat) :
    l.foldl (fun a n => if p n then IntOp.addi a 1#32 else a) (BitVec.ofNat 32 z) = BitVec.ofNat 32 (z + l.countP fun n => decide (p n)) := by
  induction l generalizing z with
  | nil => rfl
  | cons n l ih =>
    rw [List.foldl_cons, List.countP_cons]
    by_cases h : p n
    · have e : IntOp.addi (BitVec.ofNat 32 z) 1#32 = BitVec.ofNat 32 (z + 1) := (BitVec.ofNat_add z 1).symm
      rw [if_pos h, if_pos (decide_eq_true h), e, ih]
      congr 1; omega
    · rw [if_neg h, if_neg (by simpa using h), ih, Nat.add_zero]

/-- One at a row that starts a section, zero elsewhere. -/
def starts (t : Nat) : Nat := if t % 2048 = 0 then 1 else 0

/-- At most one section starts at a row. -/
theorem count_starts (t : Nat) (ht : t < 32768) : Nat.count (fun n => 2048 * n = t) 16 = starts t := by
  rw [Nat.count_eq_card_filter_range]
  unfold starts
  split
  · rw [Finset.card_eq_one]
    refine ⟨t / 2048, ?_⟩
    ext n
    simp only [Finset.mem_filter, Finset.mem_range, Finset.mem_singleton]
    omega
  · rw [Finset.card_eq_zero]
    ext n
    simp only [Finset.mem_filter, Finset.mem_range, Finset.notMem_empty, iff_false]
    omega

/-- Up to and at row `t`, `t / 2048 + 1` sections have started. -/
theorem sum_starts (t : Nat) : ((List.range (t + 1)).map starts).sum = t / 2048 + 1 := by
  induction t with
  | zero => rfl
  | succ t ih =>
    rw [List.range_succ, List.map_append, List.sum_append, ih]
    simp only [List.map_cons, List.map_nil, List.sum_cons, List.sum_nil, starts]
    split <;> omega

/-- The scatter marks the first rows. -/
theorem marks (t : Fin 32768) : val_main_v16 (F := Ideal) len (ix1 t) = BitVec.ofNat 32 (starts t.val) := by
  have h0 : val_main_v8 (F := Ideal) (ix1 t) = BitVec.ofNat 32 0 := by
    rw [val_main_v8_apply, val_main_c_2_apply]
  have h1 : ∀ i, val_main_v15 (F := Ideal) i = 1#32 := fun i => by
    rw [val_main_v15_apply, val_main_c_5_apply]
  unfold val_main_v16
  rw [scatter_at, h0]
  simp only [lands, h1]
  rw [fold_ones, Nat.zero_add]
  exact congrArg _ ((countP_finRange 16 fun n => 2048 * n = t.val).trans (count_starts t.val t.isLt))

/-- The running sum starts at zero. -/
theorem first_word : val_main_call3_call0_v0 (F := Ideal) ix0 = 0#32 := by
  rw [val_main_call3_call0_v0_apply, val_main_call3_call0_c_apply]

/-- A row's section, from the running sum of the marks. -/
theorem section_of (i : S32768.Idx) : val_main_v19 (F := Ideal) len i = BitVec.ofNat 32 ((i 0).val / 2048) := by
  obtain ⟨t, rfl⟩ : ∃ t : Fin 32768, i = ix1 t := ⟨i 0, eq_ix1 i⟩
  have h : val_main_v17 (F := Ideal) len (ix1 t) = BitVec.ofNat 32 (t.val / 2048 + 1) :=
    (cumsum1 (by norm_num) _ starts marks _ first_word _ _ t).trans (congrArg _ (sum_starts _))
  rw [val_main_v19_apply, val_main_v18_apply, val_main_c_6_apply, h, BitVec.ofNat_add]
  exact BitVec.add_sub_cancel _ _

/-! ## The gathers -/

/-- The first gather's index. -/
theorem index4 (i : S32768.Idx) : val_main_call4_v4 (F := Ideal) len i = BitVec.ofNat 32 ((i 0).val / 2048) := by
  have hi : (i 0).val < 32768 := (i 0).isLt
  rw [val_main_call4_v4_apply, val_main_call4_v1_apply, section_of, val_main_call4_v0_apply, val_main_call4_c_apply,
    no_wrap _ (by omega)]

/-- It lies inside the table. -/
theorem mask4 (i : S32768.Idx) : val_main_call4_v12 (F := Ideal) len i = 1#1 := by
  refine Host.reduce_andi_one _ _ _ _ _ rfl fun j => ?_
  have hj : (j 0).val < 32768 := (j 0).isLt
  rw [val_main_call4_v11_apply, val_main_call4_v7_apply, val_main_call4_v10_apply, val_main_call4_v5_apply, index4]
  exact in_range _ 15 (show (j 0).val / 2048 ≤ 15 by omega) (by omega)

/-- A row's section, as the first gather leaves it. -/
theorem segment (t : Fin 32768) : val_main_v20 (F := Ideal) len (ix1 t) = BitVec.ofNat 32 (t.val / 2048) := by
  have ht := t.isLt
  rw [val_main_v20_apply, mask4, select_one]
  unfold val_main_call4_v13
  exact gather_take1 _ rfl rfl rfl rfl _ _ t (⟨t.val / 2048, by omega⟩ : Fin 16)
    ((val_main_call4_v5_apply _ _).trans (index4 _)) (by omega)

/-- The third gather's index. -/
theorem index6 (i : S32768.Idx) : val_main_call6_v4 (F := Ideal) len i = BitVec.ofNat 32 ((i 0).val / 2048) := by
  obtain ⟨t, rfl⟩ : ∃ t : Fin 32768, i = ix1 t := ⟨i 0, eq_ix1 i⟩
  have ht := t.isLt
  rw [val_main_call6_v4_apply, val_main_call6_v1_apply, val_main_call6_v0_apply, val_main_call6_c_apply, segment,
    no_wrap _ (by omega)]

/-- It lies inside the table. -/
theorem mask6 (i : S32768.Idx) : val_main_call6_v12 (F := Ideal) len i = 1#1 := by
  refine Host.reduce_andi_one _ _ _ _ _ rfl fun j => ?_
  have hj : (j 0).val < 32768 := (j 0).isLt
  rw [val_main_call6_v11_apply, val_main_call6_v7_apply, val_main_call6_v10_apply, val_main_call6_v5_apply, index6]
  exact in_range _ 15 (show (j 0).val / 2048 ≤ 15 by omega) (by omega)

/-- The second gather fetches each section's last row. -/
theorem last (x : FVec Ideal S32768x128 .f32) (b : Fin 16) (k : Fin 128) :
    val_main_v21 (F := Ideal) x len (ix2 b k) = x (ix2 ⟨2048 * b.val + 2047, by omega⟩ k) := by
  rw [val_main_v21_apply, val_main_call5_v14_apply]
  have e : idx_main_call5_v14 (ix2 b k) = ix1 b := funext fun a => match a with | ⟨0, _⟩ => rfl
  rw [e, last_row_in, select_one]
  unfold val_main_call5_v13
  exact gather_row _ rfl rfl rfl rfl rfl _ _ b k _ (last_row b) (by omega)

/-- The third hands every row the last row of its section. -/
theorem last_of (x : FVec Ideal S32768x128 .f32) (t : Fin 32768) (k : Fin 128) :
    val_main_v22 (F := Ideal) x len (ix2 t k) = x (ix2 ⟨2048 * (t.val / 2048) + 2047, by omega⟩ k) := by
  have ht := t.isLt
  rw [val_main_v22_apply, val_main_call6_v14_apply, mask6, select_one]
  unfold val_main_call6_v13
  refine (gather_row _ rfl rfl rfl rfl rfl _ _ t k (⟨t.val / 2048, by omega⟩ : Fin 16)
    ((val_main_call6_v5_apply _ _).trans (index6 _)) (by omega)).trans ?_
  exact last x _ k

end Cert.ReferenceIdeal.Sections

end
-- ==== Proof.RefValue.lean ====
/- The reference's result where every section holds 2048 tokens: at section `b` and column `j` it is `Gate.result` of that
   section's rows. -/
module

public import proofs.«01_k».proof.Proof.Gate
public import proofs.«01_k».proof.Proof.RefIndex
public import Idealize.ShloMosaic.Lib.Pointwise

@[expose] public section

set_option maxRecDepth 16384

noncomputable section

namespace Cert.ReferenceIdeal.Sections

open Idealize.ShloMosaic Idealize.ShloMosaic.Routing
open Idealize.ShloMosaic.ValueIdx (select_one)
open Cert.ReferenceIdeal Cert.ReferenceIdeal.Gen Cert.ReferenceIdeal.Read

/-- Two indices of a rank-two shape agree when their coordinates do. -/
theorem ext2 {n0 n1 : Nat} (i : (⟨2, ![n0, n1]⟩ : Shape).Idx) (a : Fin n0) (b : Fin n1) (h0 : (i 0).val = a.val)
    (h1 : (i 1).val = b.val) : i = ix2 a b := by
  rw [eq_ix2 i]
  exact (ix2_inj _ _ _ _).2 ⟨Fin.ext h0, Fin.ext h1⟩

variable (x u : FVec Ideal S32768x128 .f32) (nc : FVec Ideal S32768 .f32) (ue : FVec Ideal S16x128 .f32)
  (w1 : FVec Ideal S1x128 .f32) (b1 : FVec Ideal S1 .f32) (w2 : FVec Ideal S128x384 .f32) (b2 : FVec Ideal S128 .f32)
  (w5 : FVec Ideal S128x256 .f32) (b5 : FVec Ideal S128 .f32) (ul : FVec Ideal S128x128 .f32) (ulb : FVec Ideal S128 .f32)

/-- The last row of a row's section. -/
abbrev lastOf (t : Fin 32768) (k : Fin 128) : EReal := x (ix2 ⟨2048 * (t.val / 2048) + 2047, by omega⟩ k)

/-- A row's three feature rows side by side. -/
theorem features (t : Fin 32768) (k : Fin 384) :
    val_main_v23 (F := Ideal) x len u (ix2 t k)
      = Gate.feat (lastOf x t) (fun k => x (ix2 t k)) (fun k => u (ix2 t k)) k := by
  unfold val_main_v23 Gate.feat
  pointwise
  by_cases h : k.val < 128
  · rw [dif_pos h, dif_pos h]
    refine (congrArg _ (ix2_eq_valueIdx _ _)).trans ?_
    exact last_of x t ⟨k.val, h⟩
  · rw [dif_neg h, dif_neg h]
    by_cases h' : k.val < 256
    · rw [dif_pos (by omega), dif_pos h']
    · rw [dif_neg (by omega), dif_neg h']
      exact congrArg u (ext2 _ t _ rfl (by show k.val - 128 - 128 = k.val - 256; omega))

/-- A row's score in gate column `j`. -/
theorem score (t : Fin 32768) (j : Fin 128) :
    val_main_v28 (F := Ideal) x len u w2 b2 (ix2 t j)
      = Gate.score (lastOf x t) (fun k => x (ix2 t k)) (fun k => u (ix2 t k)) (fun j k => w2 (ix2 j k)) (fun j => b2 (ix1 j)) j := by
  rw [val_main_v28_apply, val_main_v25_apply, val_main_v27_apply, val_main_v26_apply]
  refine congrArg₂ (· + ·) (Finset.sum_congr rfl fun k _ => congrArg₂ (· * ·) ?_ ?_) ?_
  · refine (congrArg _ (ext2 _ t k rfl rfl)).trans (features x u t k)
  · rw [val_main_v24_apply]
    exact congrArg w2 (ext2 _ j k rfl rfl)
  · exact congrArg b2 (eq_ix1 _)

/-- A row's attention weight. -/
theorem alpha (t : Fin 32768) :
    val_main_v39 (F := Ideal) x len u w1 b1 w2 b2 (ix2 t (0 : Fin 1))
      = Gate.alpha (lastOf x t) (fun k => x (ix2 t k)) (fun k => u (ix2 t k)) (fun j k => w2 (ix2 j k)) (fun j => b2 (ix1 j))
          (fun j => w1 (ix2 0 j)) (b1 (ix1 0)) := by
  rw [val_main_v39_apply, val_main_v36_apply, val_main_v38_apply, val_main_v37_apply]
  refine congrArg₂ (· + ·) (Finset.sum_congr rfl fun k _ => congrArg₂ (· * ·) ?_ ?_) ?_
  · rw [ext2 (lidx_main_v36 (ix2 t (0 : Fin 1)) k) t k rfl rfl, val_main_v34_apply, val_main_v33_apply, val_main_v32_apply,
      val_main_v31_apply, val_main_v30_apply, val_main_v29_apply, score]
    rw [val_main_cst_7_apply, val_main_cst_apply, Ideal.ofBits_def, Ideal.ofBits_one_f32]
    rfl
  · rw [val_main_v35_apply]
    exact congrArg w1 (ext2 _ 0 k rfl rfl)
  · exact congrArg b1 (eq_ix1 _)

/-- A row weighted by its count and its attention weight. -/
theorem weighted (t : Fin 32768) (k : Fin 128) :
    val_main_v43 (F := Ideal) x len nc u w1 b1 w2 b2 (ix2 t k)
      = nc (ix1 t) * Gate.alpha (lastOf x t) (fun k => x (ix2 t k)) (fun k => u (ix2 t k)) (fun j k => w2 (ix2 j k))
          (fun j => b2 (ix1 j)) (fun j => w1 (ix2 0 j)) (b1 (ix1 0)) * x (ix2 t k) := by
  rw [val_main_v43_apply, val_main_v42_apply, ext2 (idx_main_v42 (ix2 t k)) t (0 : Fin 1) rfl rfl, val_main_v41_apply,
    val_main_v40_apply, alpha]
  refine congrArg₂ (· * ·) (congrArg₂ (· * ·) ?_ rfl) rfl
  exact congrArg nc (eq_ix1 _)

/-- An update of the segment sum lands at section `b`, column `k`, exactly when its row is in that section and its column
    is `k`. -/
theorem lands_sum (t : Fin 32768) (k' k : Fin 128) (b : Fin 16) :
    scatter_S16x128_S32768x1_S32768x128_1_0_0_1.resultIdx? (ix2 t k') (val_main_v45 (F := Ideal) len) = some (ix2 b k)
      ↔ t.val / 2048 = b.val ∧ k' = k := by
  have ht := t.isLt
  have hs0 : scatter_S16x128_S32768x1_S32768x128_1_0_0_1.start (ix2 t k') (val_main_v45 (F := Ideal) len) 0
      = ((t.val / 2048 : Nat) : Int) := by
    unfold ScatterDims.start
    rw [dif_pos (by decide), val_main_v45_apply]
    have e : ∀ p, idx_main_v45 (scatter_S16x128_S32768x1_S32768x128_1_0_0_1.siIdx (ix2 t k') p) = ValueIdx.ix1 t := fun p =>
      funext fun a => match a with | ⟨0, _⟩ => rfl
    rw [e, segment, StableHlo.Predicate.toInt_ofNat_small _ (by omega)]
  have hs1 : scatter_S16x128_S32768x1_S32768x128_1_0_0_1.start (ix2 t k') (val_main_v45 (F := Ideal) len) 1 = 0 := by
    unfold ScatterDims.start
    rw [dif_neg (by decide)]
  have hw0 : scatter_S16x128_S32768x1_S32768x128_1_0_0_1.window (ix2 t k') 0 = 0 := by
    unfold ScatterDims.window
    rw [dif_neg (by decide)]
  have hw1 : scatter_S16x128_S32768x1_S32768x128_1_0_0_1.window (ix2 t k') 1 = k'.val := by
    unfold ScatterDims.window
    rw [dif_pos (by decide)]
    rfl
  rw [ix2_eq_valueIdx b k, resultIdx?_ix2, hs0, hs1, hw0, hw1, Fin.ext_iff]
  omega

/-- Row `i` of section `b`. -/
abbrev rowOf (b : Fin 16) (i : Fin 2048) : Fin 32768 := ⟨2048 * b.val + i.val, by omega⟩

/-- The last row of a section. -/
theorem rowOf_last (b : Fin 16) : rowOf b 2047 = ⟨2048 * b.val + 2047, by omega⟩ := by
  have h : (2047 : Fin 2048).val = 2047 := rfl
  exact Fin.ext (congrArg (2048 * b.val + ·) h)

/-- A sum over the updates that land at section `b`, column `k` is a sum over the section's rows. -/
theorem sum_section (f : S32768x128.Idx → EReal) (b : Fin 16) (k : Fin 128) :
    ∑ j ∈ Finset.univ.filter (fun j => scatter_S16x128_S32768x1_S32768x128_1_0_0_1.resultIdx? j (val_main_v45 (F := Ideal) len)
        = some (ix2 b k)), f j
      = ∑ i : Fin 2048, f (ix2 (rowOf b i) k) := by
  symm
  refine Finset.sum_bij (fun i _ => ix2 (rowOf b i) k) (fun i _ => ?_) (fun i _ i' _ h => ?_) (fun j hj => ?_) fun _ _ => rfl
  · rw [Finset.mem_filter]
    refine ⟨Finset.mem_univ _, (lands_sum _ _ _ _).2 ⟨?_, rfl⟩⟩
    show (2048 * b.val + i.val) / 2048 = b.val
    omega
  · have h' := congrArg Fin.val ((ix2_inj _ _ _ _).1 h).1
    refine Fin.ext ?_
    change 2048 * b.val + i.val = 2048 * b.val + i'.val at h'
    omega
  · rw [Finset.mem_filter, eq_ix2 j] at hj
    obtain ⟨h1, h2⟩ := (lands_sum _ _ _ _).1 hj.2
    have hj0 : (j 0).val < 32768 := (j 0).isLt
    refine ⟨⟨(j 0).val - 2048 * b.val, by omega⟩, Finset.mem_univ _, ?_⟩
    refine (ext2 j _ _ ?_ (congrArg Fin.val h2)).symm
    show (j 0).val = 2048 * b.val + ((j 0).val - 2048 * b.val)
    omega

/-- Section `b` of an array of rows. -/
abbrev sec (y : FVec Ideal S32768x128 .f32) (b : Fin 16) (i : Fin 2048) (k : Fin 128) : EReal := y (ix2 (rowOf b i) k)

/-- The segment sum. -/
theorem pooled (b : Fin 16) (k : Fin 128) :
    val_main_v46 (F := Ideal) x len nc u w1 b1 w2 b2 (ix2 b k)
      = Gate.pooled (sec x b) (sec u b) (fun i => nc (ix1 (rowOf b i))) (fun j k => w2 (ix2 j k)) (fun j => b2 (ix1 j))
          (fun j => w1 (ix2 0 j)) (b1 (ix1 0)) k := by
  unfold val_main_v46 Gate.pooled
  show val_main_v44 (F := Ideal) (ix2 b k) + _ = _
  rw [sum_section, val_main_v44_apply, val_main_cst_8_apply]
  show Ideal.ofBits .f32 _ + _ = _
  rw [Ideal.ofBits_zero_f32, zero_add]
  refine Finset.sum_congr rfl fun i _ => ?_
  rw [weighted]
  have h : (2048 * b.val + i.val) / 2048 = b.val := by omega
  have e : lastOf x (rowOf b i) = sec x b 2047 := funext fun k => by
    unfold sec
    rw [rowOf_last]
    exact congrArg x ((ix2_inj _ _ _ _).2 ⟨Fin.ext (congrArg (2048 * · + 2047) h), rfl⟩)
  rw [e]

/-- The reference's result at section `b`, column `j`. -/
theorem result (b : Fin 16) (j : Fin 128) :
    val_main_v59 (F := Ideal) x len nc ue u w1 b1 w2 b2 w5 b5 ul ulb (ix2 b j)
      = Gate.result (sec x b) (sec u b) (fun i => nc (ix1 (rowOf b i))) (fun k => ue (ix2 b k)) (fun j k => w2 (ix2 j k))
          (fun j => b2 (ix1 j)) (fun j => w1 (ix2 0 j)) (b1 (ix1 0)) (fun j k => w5 (ix2 j k)) (fun j => b5 (ix1 j))
          (fun j k => ul (ix2 j k)) (fun j => ulb (ix1 j)) j := by
  rw [val_main_v59_apply, val_main_v52_apply, val_main_v58_apply, val_main_v57_apply, val_main_v49_apply, val_main_v51_apply,
    val_main_v50_apply, val_main_v54_apply, val_main_v56_apply, val_main_v55_apply]
  refine congrArg₂ (· + ·) (congrArg₂ (· + ·) (Finset.sum_congr rfl fun k _ => congrArg₂ (· * ·) ?_ ?_) ?_)
    (congrArg Ideal.tanh (congrArg₂ (· + ·) (Finset.sum_congr rfl fun k _ => congrArg₂ (· * ·) ?_ ?_) ?_))
  · rw [ext2 (lidx_main_v49 (ix2 b j) k) b k rfl rfl]
    unfold val_main_v47 Gate.feat₂
    pointwise
    by_cases h : k.val < 128
    · rw [dif_pos h, dif_pos h]
      refine (congrArg _ (ix2_eq_valueIdx _ _)).trans ?_
      unfold sec
      rw [rowOf_last]
      exact last x b ⟨k.val, h⟩
    · rw [dif_neg h, dif_neg h, pooled]
  · rw [val_main_v48_apply]
    exact congrArg w5 (ext2 _ j k rfl rfl)
  · exact congrArg b5 (eq_ix1 _)
  · exact congrArg ue (ext2 _ b k rfl rfl)
  · rw [val_main_v53_apply]
    exact congrArg ul (ext2 _ j k rfl rfl)
  · exact congrArg ulb (eq_ix1 _)

end Cert.ReferenceIdeal.Sections

end
-- ==== Proof.Algebraic.lean ====
/- Kernel and reference compute the same array where every section has 2048 tokens and the gate's output weights are real. -/
module

public import proofs.«01_k».proof.Defs
public import proofs.«01_k».proof.Proof.KernelValue
public import proofs.«01_k».proof.Proof.RefValue
public import proofs.«01_k».proof.Proof.PreFacts
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Equal

open Idealize.ShloMosaic Idealize.ShloMosaic.TcCoe Idealize.SL.Sem
open Cert.ReferenceIdeal (S32768x128 S32768 S16x128 S1x128 S1 S128x384 S128 S128x256 S128x128)

variable (x u : FVec Ideal S32768x128 .f32) (nc : FVec Ideal S32768 .f32) (ue : FVec Ideal S16x128 .f32)
  (w1 : FVec Ideal S1x128 .f32) (b1 : FVec Ideal S1 .f32) (w2 : FVec Ideal S128x384 .f32) (b2 : FVec Ideal S128 .f32)
  (w5 : FVec Ideal S128x256 .f32) (b5 : FVec Ideal S128 .f32) (ul : FVec Ideal S128x128 .f32) (ulb : FVec Ideal S128 .f32)

/-- The reference's result over equal arguments is equal. -/
theorem reference_congr {x x' u u' : FVec Ideal S32768x128 .f32} {n n' : IVec ReferenceIdeal.S16 32} {nc nc' : FVec Ideal S32768 .f32}
    {ue ue' : FVec Ideal S16x128 .f32} {w1 w1' : FVec Ideal S1x128 .f32} {b1 b1' : FVec Ideal S1 .f32}
    {w2 w2' : FVec Ideal S128x384 .f32} {b2 b2' : FVec Ideal S128 .f32} {w5 w5' : FVec Ideal S128x256 .f32}
    {b5 b5' : FVec Ideal S128 .f32} {ul ul' : FVec Ideal S128x128 .f32} {ulb ulb' : FVec Ideal S128 .f32}
    (hx : x = x') (hn : n = n') (hnc : nc = nc') (hue : ue = ue') (hu : u = u') (hw1 : w1 = w1') (hb1 : b1 = b1')
    (hw2 : w2 = w2') (hb2 : b2 = b2') (hw5 : w5 = w5') (hb5 : b5 = b5') (hul : ul = ul') (hulb : ulb = ulb') :
    ReferenceIdeal.Read.val_main_v59 (F := Ideal) x n nc ue u w1 b1 w2 b2 w5 b5 ul ulb
      = ReferenceIdeal.Read.val_main_v59 (F := Ideal) x' n' nc' ue' u' w1' b1' w2' b2' w5' b5' ul' ulb' := by
  subst hx hn hnc hue hu hw1 hb1 hw2 hb2 hw5 hb5 hul hulb
  rfl

/-- The reference's result over sections of 2048 tokens is, row by row, what the kernel stores. -/
theorem rows_eq (hW : ∀ i, ∃ w : ℝ, w1 i = (w : EReal)) :
    ReferenceIdeal.Read.val_main_v59 (F := Ideal) x ReferenceIdeal.Sections.len nc ue u w1 b1 w2 b2 w5 b5 ul ulb
      = fun i => KernelIdeal.Section.rowFor x u nc ue w1 b1 w2 b2 w5 b5 ul ulb (i 0) (i 1) := by
  have e (b : Fin 16) (j : Fin 128) :
      ReferenceIdeal.Read.val_main_v59 (F := Ideal) x ReferenceIdeal.Sections.len nc ue u w1 b1 w2 b2 w5 b5 ul ulb (ix2 b j)
        = KernelIdeal.Section.rowFor x u nc ue w1 b1 w2 b2 w5 b5 ul ulb b j :=
    (ReferenceIdeal.Sections.result x u nc ue w1 b1 w2 b2 w5 b5 ul ulb b j).trans
      (Gate.kernelResult_eq _ _ _ _ _ _ _ _ _ _ _ _ (fun j => hW (ix2 0 j)) j).symm
  funext i
  rw [eq_ix2 i]
  exact e (i 0) (i 1)

/-- The reference leaves its arguments unchanged and every counter at zero: it has no semaphores. -/
theorem reference_frame : Cert.quiescent_ReferenceIdeal (hReferenceIdeal := ReferenceIdeal.Gen.facts) := fun m g _ =>
  (θ_run _ _ _).mono (fun r h => ⟨fun c => (h c).2, sem_eq_zero_of_no_sems (by decide) r.2⟩)
    (ReferenceIdeal.Value.run (F := Ideal) m g)

/-- Over the extended reals kernel and reference end with the same result, given the precondition. -/
theorem algebraic : Cert.algebraic_KernelIdeal_ReferenceIdeal_pre_even_sections_finite_gate
    (hKernelIdeal := KernelIdeal.Gen.facts) (hReferenceIdeal := ReferenceIdeal.Gen.facts)
    (hPre_even_sections_finite_gate := Pre_even_sections_finite_gate.facts) := by
  intro m g m' g' hpre hagree
  refine ⟨fun c => KernelIdeal.Section.rows m c, ?_, ?_⟩
  · exact (θ_run _ _ _).mono (fun r h c => ⟨h.1 c, h.2 c⟩)
      (θ_run_and (KernelIdeal.Section.run_rows m g) (KernelIdeal.Gen.unchanged m g))
  · refine (θ_run _ _ _).mono (fun r h c => ⟨(h c).1.trans ?_, (h c).2⟩) (ReferenceIdeal.Value.run (F := Ideal) m' g')
    obtain ⟨h0, -, h2, h3, h4, -, h6, h7, h8, h9, h10, h11, h12, h13, h14⟩ := hagree c
    have hl := Pre_even_sections_finite_gate.lengths _ _ _ _ _ _ _ _ _ _ _ _ _ _ _ (hpre c)
    have hw := Pre_even_sections_finite_gate.weights _ _ _ _ _ _ _ _ _ _ _ _ _ _ _ (hpre c)
    refine (ReferenceIdeal.Read.val_main_v59_eq (F := Ideal) (StableHlo.launchContents m' c)).trans ?_
    refine (reference_congr h0 (h2.trans hl) h3 h4 h6 h7 h8 h9 h10 h11 h12 h13 h14).trans ?_
    exact rows_eq _ _ _ _ _ _ _ _ _ _ _ _ hw

end Cert.Equal

end
-- ==== Proof.lean ====
/- The certificate: the frames of the kernel, of its idealization and of the reference, and that over the extended reals the
   kernel computes the reference's function where the precondition holds. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.PreFacts
public import proofs.«01_k».proof.Proof.Algebraic
public import Idealize.ShloMosaic.Adequacy
public import Idealize.ShloMosaic.Init

@[expose] public section

noncomputable section

namespace Cert.Proof

open Idealize.ShloMosaic

/-- Every claim of the certificate: each program ends with its arguments unchanged and every counter at zero, and the kernel's
    result is the reference's. -/
theorem claim : Cert.Claim :=
  ⟨Cert.Kernel.Gen.facts, Cert.KernelIdeal.Gen.facts, Cert.ReferenceIdeal.Gen.facts, Cert.Pre_even_sections_finite_gate.facts,
    fun m g _ => Cert.Kernel.Gen.frame m g,
    fun m g _ => Cert.KernelIdeal.Gen.frame m g,
    fun m g _ => Cert.KernelIdeal.Gen.frame m g,
    Cert.Equal.reference_frame,
    fun m g _ => Cert.Equal.reference_frame m g trivial,
    trivial,
    Cert.Equal.algebraic⟩

end Cert.Proof

end
